-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S768x64 : Shape := ⟨2, ![768, 64]⟩
abbrev S64 : Shape := ⟨1, ![64]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x8192x768 .f32) (main_arg1 : FVec F S768x64 .f32) (main_arg2 : FVec F S64 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x8192x768 : Shape := ⟨3, ![4, 8192, 768]⟩
abbrev S768x64 : Shape := ⟨2, ![768, 64]⟩
abbrev S64 : Shape := ⟨1, ![64]⟩
abbrev S32768x768 : Shape := ⟨2, ![32768, 768]⟩
abbrev S64x768 : Shape := ⟨2, ![64, 768]⟩
abbrev S1x64 : Shape := ⟨2, ![1, 64]⟩
abbrev S4x8192x64 : Shape := ⟨3, ![4, 8192, 64]⟩
abbrev S8x32768 : Shape := ⟨2, ![8, 32768]⟩
abbrev S2x32768 : Shape := ⟨2, ![2, 32768]⟩
abbrev S32768x2 : Shape := ⟨2, ![32768, 2]⟩
abbrev S4x8192x2 : Shape := ⟨3, ![4, 8192, 2]⟩
abbrev S4096x768 : Shape := ⟨2, ![4096, 768]⟩
abbrev S1x4096x64 : Shape := ⟨3, ![1, 4096, 64]⟩
abbrev S8x4096 : Shape := ⟨2, ![8, 4096]⟩
abbrev S1024x768 : Shape := ⟨2, ![1024, 768]⟩
abbrev S1024x64 : Shape := ⟨2, ![1024, 64]⟩
abbrev S1x1024x64 : Shape := ⟨3, ![1, 1024, 64]⟩
abbrev S1024 : Shape := ⟨1, ![1024]⟩
abbrev S1024x1 : Shape := ⟨2, ![1024, 1]⟩
abbrev S1024x8 : Shape := ⟨2, ![1024, 8]⟩
abbrev S8x1024 : Shape := ⟨2, ![8, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S768x64, .f32⟩
  | .hbm, ⟨2, _⟩ => ⟨S64, .f32⟩
  | .hbm, ⟨3, _⟩ => ⟨S32768x768, .f32⟩
  | .hbm, ⟨4, _⟩ => ⟨S64x768, .f32⟩
  | .hbm, ⟨5, _⟩ => ⟨S1x64, .f32⟩
  | .hbm, ⟨6, _⟩ => ⟨S4x8192x64, .f32⟩
  | .hbm, ⟨7, _⟩ => ⟨S8x32768, .f32⟩
  | .hbm, ⟨8, _⟩ => ⟨S2x32768, .f32⟩
  | .hbm, ⟨9, _⟩ => ⟨S32768x2, .f32⟩
  | .hbm, ⟨10, _⟩ => ⟨S32768x2, .i32⟩
  | .hbm, ⟨11, _⟩ => ⟨S2x32768, .f32⟩
  | .hbm, ⟨12, _⟩ => ⟨S32768x2, .f32⟩
  | .hbm, ⟨13, _⟩ => ⟨S4x8192x2, .i32⟩
  | .hbm, ⟨14, _⟩ => ⟨S4x8192x2, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S1x64, .f32⟩
  | .local _ .vmem, ⟨4, _⟩ => ⟨S1x4096x64, .f32⟩
  | .local _ .vmem, ⟨5, _⟩ => ⟨S1x4096x64, .f32⟩
  | .local _ .vmem, ⟨6, _⟩ => ⟨S8x4096, .f32⟩
  | .local _ .vmem, ⟨7, _⟩ => ⟨S8x4096, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_v3_1 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x768 : Shape := ⟨3, ![4, 8192, 768]⟩
abbrev S768x64 : Shape := ⟨2, ![768, 64]⟩
abbrev S64 : Shape := ⟨1, ![64]⟩
abbrev S4x8192x64 : Shape := ⟨3, ![4, 8192, 64]⟩
abbrev S1x1x64 : Shape := ⟨3, ![1, 1, 64]⟩
abbrev S4x8192x2 : Shape := ⟨3, ![4, 8192, 2]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x64, .f32⟩
  | .hbm, ⟨2, _⟩ => ⟨S64, .f32⟩
  | .hbm, ⟨3, _⟩ => ⟨S4x8192x64, .f32⟩
  | .hbm, ⟨4, _⟩ => ⟨S1x1x64, .f32⟩
  | .hbm, ⟨5, _⟩ => ⟨S4x8192x64, .f32⟩
  | .hbm, ⟨6, _⟩ => ⟨S4x8192x64, .f32⟩
  | .hbm, ⟨7, _⟩ => ⟨S4x8192x2, .f32⟩
  | .hbm, ⟨8, _⟩ => ⟨S4x8192x2, .i32⟩
  | .hbm, ⟨9, _⟩ => ⟨S_, .f32⟩
  | .hbm, ⟨10, _⟩ => ⟨S4x8192, .f32⟩
  | .hbm, ⟨11, _⟩ => ⟨S_, .f32⟩
  | .hbm, ⟨12, _⟩ => ⟨S4x8192, .f32⟩
  | .hbm, ⟨13, _⟩ => ⟨S4x8192, .f32⟩
  | .hbm, ⟨14, _⟩ => ⟨S4x8192x1, .f32⟩
  | .hbm, ⟨15, _⟩ => ⟨S4x8192x2, .f32⟩
  | .hbm, ⟨16, _⟩ => ⟨S4x8192x2, .f32⟩
  | .hbm, ⟨17, _⟩ => ⟨S4x8192x2, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S4x8192x2, .f32⟩
  | .hbm, ⟨22, _⟩ => ⟨S4x8192x2, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Rank.lean ====
/- One row of router logits, as mathematics: the best expert, the next best, and what the two searches of the
   kernel and the stable sort of the reference say of them. No program is read here. -/
module

public import Idealize.ShloMosaic.Init
public import Idealize.ShloMosaic.Lib.SortPrefix
public import Idealize.ShloMosaic.Lib.Pointwise
public import Idealize.ShloMosaic.Lib.IdealHost

@[expose] public section

noncomputable section

namespace Cert.Rank

open Idealize.ShloMosaic

/-- `p` is the first place of the greatest entry of `f`: nothing is greater, and everything earlier is smaller. -/
def IsFirst (f : Fin 64 → EReal) (p : Fin 64) : Prop := ∀ k, f k ≤ f p ∧ (k < p → f k < f p)

/-- Every row has a first place of its greatest entry. -/
theorem exists_isFirst (f : Fin 64 → EReal) : ∃ p, IsFirst f p := by
  obtain ⟨q, -, hq⟩ := Finset.exists_max_image Finset.univ f ⟨0, Finset.mem_univ _⟩
  let S := Finset.univ.filter fun k => f k = f q
  have hS : S.Nonempty := ⟨q, by simp [S]⟩
  have hp := Finset.mem_filter.1 (S.min'_mem hS)
  refine ⟨S.min' hS, fun k => ⟨hp.2 ▸ hq k (Finset.mem_univ _), fun hk => ?_⟩⟩
  refine lt_of_le_of_ne (hp.2 ▸ hq k (Finset.mem_univ _)) fun e => ?_
  exact absurd (S.min'_le k (by simp [S, e, hp.2])) (not_le.2 hk)

/-- The best expert of a row: the first place of its greatest logit. -/
def best (f : Fin 64 → EReal) : Fin 64 := (exists_isFirst f).choose

/-- The best place is a first greatest place of its row. -/
theorem best_spec (f : Fin 64 → EReal) : IsFirst f (best f) := (exists_isFirst f).choose_spec

/-- The row with its best entry struck out. -/
def struck (f : Fin 64 → EReal) : Fin 64 → EReal := fun k => if k = best f then ⊥ else f k

/-- The next best expert of a row: the best of what is left. -/
def next (f : Fin 64 → EReal) : Fin 64 := best (struck f)

/-- Running maximum from the bottom over a row is the entry at its best place. -/
theorem fold_max (f : Fin 64 → EReal) : Finset.univ.fold max ⊥ f = f (best f) := by
  apply le_antisymm
  · rw [Finset.fold_max_le]
    exact ⟨bot_le, fun k _ => (best_spec f k).1⟩
  · rw [Finset.le_fold_max]
    exact Or.inr ⟨best f, Finset.mem_univ _, le_rfl⟩

/-- The smallest place holding the greatest entry, every other place counted as 64, is the best place. -/
theorem fold_min (f : Fin 64 → EReal) :
    Finset.univ.fold min ⊤ (fun k : Fin 64 => if f k = f (best f) then ((k.val : ℝ) : EReal) else ((64 : ℝ) : EReal))
      = (((best f).val : ℝ) : EReal) := by
  apply le_antisymm
  · rw [Finset.fold_min_le]
    exact Or.inr ⟨best f, Finset.mem_univ _, by rw [if_pos rfl]⟩
  · rw [Finset.le_fold_min]
    refine ⟨le_top, fun k _ => ?_⟩
    split
    · rename_i h
      have : best f ≤ k := by
        by_contra hk
        exact absurd h (ne_of_lt ((best_spec f k).2 (not_le.1 hk)))
      exact_mod_cast (Fin.le_def.1 this)
    · exact_mod_cast le_of_lt (best f).isLt

/-- The next best place is another place than the best, when no logit is the bottom. -/
theorem next_ne_best (f : Fin 64 → EReal) (hf : ∀ k, f k ≠ ⊥) : next f ≠ best f := by
  intro h
  obtain ⟨k, hk⟩ : ∃ k : Fin 64, k ≠ best f := exists_ne _
  have h1 := (best_spec (struck f) k).1
  rw [show best (struck f) = best f from h] at h1
  unfold struck at h1
  rw [if_neg hk, if_pos rfl, le_bot_iff] at h1
  exact hf k h1

/-- The struck row holds the logit itself at the next best place. -/
theorem struck_next (f : Fin 64 → EReal) (hf : ∀ k, f k ≠ ⊥) : struck f (next f) = f (next f) :=
  if_neg (next_ne_best f hf)

/-! ## The stable sort -/

/-- A stable sort reads its comparator only at a later place against an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr _ _ _ _ fun b hb => h.1 b ((perm_stableSort R' l).mem_iff.1 hb)

/-- "Greater first, ties in order of place", as a strict order on the places. -/
def before (f : Fin 64 → EReal) (k k' : Fin 64) : Bool :=
  decide (f k' < f k) || (decide (f k = f k') && decide (k < k'))

/-- The order by greater value, then lesser place, is strict and total. -/
theorem before_strict (f : Fin 64 → EReal) : StrictTotalBefore (before f) := by
  classical
  refine StrictTotalBefore.of_key_then_position (fun a b => decide (b < a)) f ?_ ?_ ?_
  · intro a; simp
  · intro a b c hab hbc
    simp only [decide_eq_true_eq] at *
    exact hbc.trans hab
  · intro a b
    simp only [decide_eq_true_eq]
    rcases lt_trichotomy a b with h | h | h
    · exact Or.inr (Or.inr h)
    · exact Or.inr (Or.inl h)
    · exact Or.inl h

/-- Two comparators that agree whenever the first place is the later one sort alike. -/
theorem sortedFrom_congr_later {n : Nat} (R R' : Fin n → Fin n → Bool) (h : ∀ a b, a < b → R b a = R' b a) :
    sortedFrom R = sortedFrom R' := by
  have e : sortPositions n R = sortPositions n R' := by
    unfold sortPositions
    exact stableSort_congr_later _ _ _ ((List.pairwise_lt_finRange n).imp fun {a b} hab => h a b hab)
  funext k
  unfold sortedFrom
  rw [List.get_of_eq e]
  rfl

/-- The sort by "greater" alone is the sort by "greater, then place". -/
theorem sortedFrom_greater (f : Fin 64 → EReal) (R : Fin 64 → Fin 64 → Bool) (hR : ∀ k k', R k k' = decide (f k' < f k)) :
    sortedFrom R = sortedFrom (before f) :=
  sortedFrom_congr_later _ _ fun a b hab => by
    rw [hR]; unfold before; rw [decide_eq_false (not_lt.2 hab.le), Bool.and_false, Bool.or_false]

/-- The first two places of the stable sort of a row, greater first, are the best and the next best expert. -/
theorem sorted_two (f : Fin 64 → EReal) (hf : ∀ k, f k ≠ ⊥) (R : Fin 64 → Fin 64 → Bool)
    (hR : ∀ k k', R k k' = decide (f k' < f k)) (i : Fin 2) :
    sortedFrom R (i.castLE (by decide)) = (![best f, next f] : Fin 2 → Fin 64) i := by
  have hne := next_ne_best f hf
  have hb := best_spec f
  have hn : ∀ k, k ≠ best f → f k ≤ f (next f) ∧ (k < next f → f k < f (next f)) := fun k hk => by
    have h := best_spec (struck f) k
    rw [show struck f (best (struck f)) = f (next f) from struck_next f hf, show struck f k = f k from if_neg hk] at h
    exact h
  have key : ∀ p q : Fin 64, (f p ≤ f q ∧ (p < q → f p < f q)) → before f p q = false := fun p q h => by
    unfold before
    rw [decide_eq_false (not_lt.2 h.1), Bool.false_or]
    by_cases e : f p = f q
    · rw [decide_eq_false fun hpq => (ne_of_lt (h.2 hpq)) e, Bool.and_false]
    · rw [decide_eq_false e, Bool.false_and]
  rw [sortedFrom_greater f R hR]
  refine (before_strict f).sortedFrom_eq_of_prefix (by decide) ![best f, next f] ?_ ?_ ?_ i
  · intro a b hab
    fin_cases a <;> fin_cases b
    · rfl
    · exact absurd hab.symm hne
    · exact absurd hab hne
    · rfl
  · intro a b hab
    fin_cases a <;> fin_cases b
    · exact absurd hab (lt_irrefl _)
    · exact key _ _ (hb _)
    · exact absurd hab (by decide)
    · exact absurd hab (lt_irrefl _)
  · intro a p hp
    fin_cases a
    · exact key _ _ (hb p)
    · exact key _ _ (hn p fun e => hp 0 e.symm)

/-! ## The gates -/

/-- For real logits the row's softmax over its two greatest: what is subtracted is the greatest, so the first weight is
    one and the second the exponential of the difference. -/
theorem exp_self {a : EReal} (ht : a ≠ ⊤) (hb : a ≠ ⊥) : Ideal.exp (a - a) = 1 := by
  induction a with
  | bot => exact absurd rfl hb
  | top => exact absurd rfl ht
  | coe r => rw [← EReal.coe_sub, sub_self, Ideal.exp_coe, Real.exp_zero]; rfl

/-- One more than an exponential of a difference of reals is not zero. -/
theorem one_add_exp_ne_zero {a b : EReal} (ha : a ≠ ⊤ ∧ a ≠ ⊥) (hb : b ≠ ⊤ ∧ b ≠ ⊥) : 1 + Ideal.exp (b - a) ≠ 0 := by
  induction a with
  | bot => exact absurd rfl ha.2
  | top => exact absurd rfl ha.1
  | coe r =>
    induction b with
    | bot => exact absurd rfl hb.2
    | top => exact absurd rfl hb.1
    | coe s =>
      rw [← EReal.coe_sub, Ideal.exp_coe, ← EReal.coe_one, ← EReal.coe_add]
      have := Real.exp_pos (s - r)
      exact fun h => absurd (EReal.coe_eq_zero.1 h) (by positivity)

/-- The two gates of a row as the kernel spells them: `1 / (1 + e)` and `e / (1 + e)`, the second by way of the first,
    with `e` the exponential of the second logit less the first. -/
def gate (f : Fin 64 → EReal) (i : Fin 2) : EReal :=
  if i = 0 then Ideal.div 1 (1 + Ideal.exp (struck f (next f) - f (best f)))
  else Ideal.exp (struck f (next f) - f (best f)) * Ideal.div 1 (1 + Ideal.exp (struck f (next f) - f (best f)))

/-- The four numbers the kernel keeps of a row, written twice over: the two experts' places and their two gates. -/
def entry (f : Fin 64 → EReal) (q : Fin 8) : EReal :=
  if q.val % 4 = 0 then (((best f).val : ℝ) : EReal) else if q.val % 4 = 1 then (((next f).val : ℝ) : EReal)
  else if q.val % 4 = 2 then gate f 0 else gate f 1

/-- They are the softmax of the two logits: each exponential, less the maximum, over the sum of both. -/
theorem softmax_eq_gate (f : Fin 64 → EReal) (hf : ∀ k, f k ≠ ⊤ ∧ f k ≠ ⊥) (v : Fin 2 → EReal)
    (hv : ∀ i, v i = f ((![best f, next f] : Fin 2 → Fin 64) i)) (i : Fin 2) :
    Ideal.div (Ideal.exp (v i - max ⊥ (Finset.univ.fold max ⊥ v)))
      (0 + ∑ j, Ideal.exp (v j - max ⊥ (Finset.univ.fold max ⊥ v))) = gate f i := by
  have h0 : v 0 = f (best f) := hv 0
  have h1 : v 1 = f (next f) := hv 1
  have hm : max ⊥ (Finset.univ.fold max ⊥ v) = f (best f) := by
    rw [max_eq_right bot_le]
    apply le_antisymm
    · rw [Finset.fold_max_le]
      exact ⟨bot_le, fun k _ => by rw [hv]; exact (best_spec f _).1⟩
    · rw [Finset.le_fold_max]
      exact Or.inr ⟨0, Finset.mem_univ _, h0.ge⟩
  rw [hm, Fin.sum_univ_two, h0, h1, exp_self (hf _).1 (hf _).2, zero_add]
  unfold gate
  rw [struck_next f fun k => (hf k).2]
  revert i
  rw [Fin.forall_fin_two, h0, h1, if_pos rfl, if_neg (by decide), exp_self (hf _).1 (hf _).2]
  exact ⟨rfl, (Ideal.mul_one_div (one_add_exp_ne_zero (hf _) (hf _))).symm⟩

/-- A small whole number, taken back to a word, is the word of that number. -/
theorem fptosi_nat (n : Fin 64) : Ideal.fptosi 32 ((n.val : ℝ) : EReal) = BitVec.ofNat 32 n.val := by
  unfold Ideal.fptosi
  rw [Ideal.toIntClamped_coe, if_pos (by positivity), Int.floor_natCast]
  have hn := n.isLt
  rw [show max (-(2 ^ (32 - 1) : Nat) : Int) (min (((2 ^ (32 - 1) : Nat) : Int) - 1) (n.val : Int)) = (n.val : Int) by
    norm_num; omega]
  exact BitVec.ofInt_natCast 32 n.val

/-- A small word, read as a signed number, is that number. -/
theorem toInt_ofNat (n : Fin 64) : (((BitVec.ofNat 32 n.val).toInt : ℝ) : EReal) = ((n.val : ℝ) : EReal) := by
  rw [(by decide : ∀ n : Fin 64, (BitVec.ofNat 32 n.val).toInt = (n.val : Int)) n]
  norm_num

/-! ## The constants the programs write as words -/

/-- The word of the lower infinity. -/
theorem ofBits_bot : Ideal.ofBits .f32 0xFF800000#32 = ⊥ := by simp [Ideal.ofBits, Ideal.ieee]

/-- The word of the upper infinity. -/
theorem ofBits_top : Ideal.ofBits .f32 0x7F800000#32 = ⊤ := by simp [Ideal.ofBits, Ideal.ieee]

/-- The word of sixty-four. -/
theorem ofBits_64 : Ideal.ofBits .f32 0x42800000#32 = ((64 : ℝ) : EReal) := by
  simp [Ideal.ofBits, Ideal.ieee]
  rw [← EReal.coe_mul]
  norm_num

end Cert.Rank

end
-- ==== Proof.Tail.lean ====
/- What the host operations after the grid make of the array of choices. -/
module

public import proofs.«01_k».proof.Proof.Gen.KernelIdeal.Skeleton
public import proofs.«01_k».proof.Proof.Gen.KernelIdeal.Launch
public import proofs.«01_k».proof.Proof.Rank
public import Idealize.ShloMosaic.Lib.Pointwise

@[expose] public section

set_option maxRecDepth 16384

noncomputable section

namespace Cert.KernelIdeal.Tail

open Idealize.ShloMosaic Idealize.ShloMosaic.TcCoe Idealize.SL.Sem
open Cert.KernelIdeal Cert.KernelIdeal.Gen Cert.Rank

/-- The two rows taken from row `o` on, token by token: batch `a`, token `s`, choice `j` is row `o + j`, column `a * 8192 + s`. -/
theorem experts_at (T : FVec Ideal S8x32768 .f32) (a : Fin 4) (s : Fin 8192) (j : Fin 2) :
    shapeCast S4x8192x2 (fptosi 32 (transpose S32768x2 [1, 0] (extractStridedSlice S2x32768 ![0, 0] T slices_S8x32768_S2x32768_0_0) transposes_S2x32768_S32768x2_1_0)) shapeCasts_S32768x2_S4x8192x2 (ix3 a s j)
      = Ideal.fptosi 32 (T (ix2 ⟨j.val, by omega⟩ ⟨a.val * 8192 + s.val, by omega⟩)) := by
  pointwise
  rfl

/-- The rows of the gates, token by token. -/
theorem gates_at (T : FVec Ideal S8x32768 .f32) (a : Fin 4) (s : Fin 8192) (j : Fin 2) :
    shapeCast S4x8192x2 (transpose S32768x2 [1, 0] (extractStridedSlice S2x32768 ![2, 0] T slices_S8x32768_S2x32768_2_0) transposes_S2x32768_S32768x2_1_0) shapeCasts_S32768x2_S4x8192x2 (ix3 a s j)
      = T (ix2 ⟨2 + j.val, by omega⟩ ⟨a.val * 8192 + s.val, by omega⟩) := by
  pointwise

end Cert.KernelIdeal.Tail

end
-- ==== Proof.Chunk.lean ====
/- What one chunk of 1024 rows computes, read at an index: the logits, and the eight columns of indices and gates. -/
module

public import proofs.«01_k».proof.Proof.Gen.KernelIdeal.Skeleton
public import proofs.«01_k».proof.Proof.Rank
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Rank

/-- The logits of row `r` of a chunk: the row against every expert's column, and the bias. -/
def row (x : FVec Ideal S1024x768 .f32) (w : FVec Ideal S64x768 .f32) (b : FVec Ideal S1x64 .f32) (r : Fin 1024) :
    Fin 64 → EReal :=
  fun e => (∑ k : Fin 768, x (ix2 r k) * w (ix2 e k)) + b (ix2 0 e)

variable (x : FVec Ideal S1024x768 .f32) (w : FVec Ideal S64x768 .f32) (b : FVec Ideal S1x64 .f32)

/-- The chunk's logits. -/
theorem logits_at (r : Fin 1024) (e : Fin 64) : k0_pay4 (F := Ideal) w b x (ix2 r e) = row x w b r e := by
  pointwise [k0_pay4, k0_pay2, k0_pay3, row]

/-- What the chunk stores into the logits' block. -/
theorem stored_logits_at (z : Fin 1) (r : Fin 1024) (e : Fin 64) :
    k0_pay5 (F := Ideal) w b x (ix3 z r e) = row x w b r e := by
  pointwise [k0_pay5]
  exact logits_at x w b r e

/-- The counter along the experts, as a number. -/
theorem iota_at (r : Fin 1024) (e : Fin 64) : k0_pay6 (F := Ideal) (ix2 r e) = ((e.val : ℝ) : EReal) := by
  pointwise [k0_pay6]
  exact toInt_ofNat e

/-- The greatest logit of a row. -/
theorem max_at (r : Fin 1024) (z : Fin 1) : k0_pay7 (F := Ideal) w b x (ix2 r z) = row x w b r (best (row x w b r)) := by
  pointwise [k0_pay7, logits_at x w b, ofBits_bot]
  exact fold_max _

/-- The place of the greatest logit. -/
theorem best_at (r : Fin 1024) (z : Fin 1) :
    k0_pay8 (F := Ideal) w b x (ix2 r z) = (((best (row x w b r)).val : ℝ) : EReal) := by
  pointwise [k0_pay8, logits_at x w b, max_at x w b, iota_at, ofBits_top, ofBits_64]
  exact fold_min _

/-- The row with its greatest logit struck out. -/
theorem struck_at (r : Fin 1024) (e : Fin 64) : k0_pay9 (F := Ideal) w b x (ix2 r e) = struck (row x w b r) e := by
  pointwise [k0_pay9, logits_at x w b, best_at x w b, iota_at, ofBits_bot]
  refine if_congr ?_ rfl rfl
  rw [EReal.coe_eq_coe_iff, Nat.cast_inj, Fin.ext_iff]

/-- The greatest logit left. -/
theorem max2_at (r : Fin 1024) (z : Fin 1) :
    k0_pay10 (F := Ideal) w b x (ix2 r z) = struck (row x w b r) (next (row x w b r)) := by
  pointwise [k0_pay10, struck_at x w b, ofBits_bot]
  exact fold_max _

/-- Its place. -/
theorem next_at (r : Fin 1024) (z : Fin 1) :
    k0_pay11 (F := Ideal) w b x (ix2 r z) = (((next (row x w b r)).val : ℝ) : EReal) := by
  pointwise [k0_pay11, struck_at x w b, max2_at x w b, iota_at, ofBits_top, ofBits_64]
  exact fold_min _

/-- The eight columns of a chunk, as stored: transposed, one row per column. -/
def cols : FVec Ideal S8x1024 .f32 :=
  k0_pay15 (k0_pay8 w b x) (k0_pay11 w b x) (k0_pay12 w b x) (k0_pay13 w b x) k0_pay14

/-- Each of them at a row of the chunk. -/
theorem cols_at (q : Fin 8) (r : Fin 1024) : cols x w b (ix2 q r) = entry (row x w b r) q := by
  pointwise [cols, k0_pay15, k0_pay12, k0_pay13, k0_pay14, best_at x w b, next_at x w b, max_at x w b, max2_at x w b]
  fin_cases q <;> rfl

end Cert.KernelIdeal.Chunk

end
-- ==== Proof.Arrays.lean ====
/- The two arrays the kernel's grid fills, after the run: every block's chunks, put at their rows. -/
module

public import proofs.«01_k».proof.Proof.Gen.KernelIdeal.Frame
public import proofs.«01_k».proof.Proof.Chunk
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Chunk Cert.Rank

/-- The logits of token `s` of batch `a`: its features against every expert's, and the bias. -/
def logit (x : FVec Ideal S4x8192x768 .f32) (w : FVec Ideal S768x64 .f32) (b : FVec Ideal S64 .f32)
    (a : Fin 4) (s : Fin 8192) : Fin 64 → EReal :=
  fun e => (∑ k : Fin 768, x (ix3 a s k) * w (ix2 k e)) + b (ix1 e)

variable (m : (ℓ : Loc nD τ sig) → Buf (Elt Ideal) ℓ)

/-- The block every window is at, at every grid point. -/
theorem idx : ∀ t : Fin cfg0.N, win0_0.index t = ![t.val, 0] ∧ win0_1.index t = ![0, 0] ∧ win0_2.index t = ![0, 0]
    ∧ win0_3.index t = ![t.val / 2, t.val % 2, 0] ∧ win0_4.index t = ![0, t.val] ∧ t.val < 8 :=
  (by decide +kernel : ∀ t : Fin grid0.N, _)

/-- What the region finds in the features' array: the features, batches one after another. -/
theorem V_features (c : Dev nD) : V m c main_call0_v0
    = shapeCast S32768x768 (m ((c : Thread nD τ).loc main_arg0) : FVec Ideal S4x8192x768 .f32) shapeCasts_S4x8192x768_S32768x768 := by
  unfold V V0; simp only [List.flatten_cons, List.flatten_nil, List.append_nil]; after_results; try rfl

/-- What the region finds in the weights' array: the weights, transposed. -/
theorem V_weights (c : Dev nD) : V m c main_call0_v1
    = transpose S64x768 [1, 0] (m ((c : Thread nD τ).loc main_arg1) : FVec Ideal S768x64 .f32) transposes_S768x64_S64x768_1_0 := by
  unfold V V0; simp only [List.flatten_cons, List.flatten_nil, List.append_nil]; after_results; try rfl

/-- What the region finds in the bias's array: the bias, as one row. -/
theorem V_bias (c : Dev nD) : V m c main_call0_v2
    = shapeCast S1x64 (m ((c : Thread nD τ).loc main_arg2) : FVec Ideal S64 .f32) shapeCasts_S64_S1x64 := by
  unfold V V0; simp only [List.flatten_cons, List.flatten_nil, List.append_nil]; after_results; try rfl

/-- The features with the batches one after another, at a row: the token of that row. -/
theorem flat_features (x : FVec Ideal S4x8192x768 .f32) (n : Fin 32768) (k : Fin 768) :
    shapeCast S32768x768 x shapeCasts_S4x8192x768_S32768x768 (ix2 n k) = x (ix3 ⟨n.val / 8192, by omega⟩ ⟨n.val % 8192, by omega⟩ k) := by
  pointwise

/-- The block of features at a point, at a row: the features of the token at that row. -/
theorem features_at (c : Dev nD) (t : Fin cfg0.N) (y : Fin 4096) (a : Fin 4) (s : Fin 8192) (k : Fin 768)
    (h : t.val * 4096 + y.val = a.val * 8192 + s.val) :
    (iblk m c 0 t : FVec Ideal S4096x768 .f32) (ix2 y k)
      = (m ((c : Thread nD τ).loc main_arg0) : FVec Ideal S4x8192x768 .f32) (ix3 a s k) := by
  have e : (win0_0.blk t).view.emb (ix2 y k) = ix2 ⟨a.val * 8192 + s.val, by omega⟩ k := by blk_ext [idx t]
  refine (congrArg (V m c main_call0_v0) e).trans ?_
  rw [V_features, flat_features]
  have ha : (a.val * 8192 + s.val) / 8192 = a.val := by omega
  have hs : (a.val * 8192 + s.val) % 8192 = s.val := by omega
  simp only [ha, hs]

/-- The block of weights at every point: the weights of an expert, feature by feature. -/
theorem weights_at (c : Dev nD) (t : Fin cfg0.N) (e : Fin 64) (k : Fin 768) :
    (iblk m c 1 t : FVec Ideal S64x768 .f32) (ix2 e k)
      = (m ((c : Thread nD τ).loc main_arg1) : FVec Ideal S768x64 .f32) (ix2 k e) := by
  have i : (win0_1.blk t).view.emb (ix2 e k) = ix2 e k := by blk_ext [idx t]
  refine (congrArg (V m c main_call0_v1) i).trans ?_
  rw [V_weights]
  pointwise

/-- The bias's block at every point: the bias of an expert. -/
theorem bias_at (c : Dev nD) (t : Fin cfg0.N) (e : Fin 64) :
    (iblk m c 2 t : FVec Ideal S1x64 .f32) (ix2 0 e)
      = (m ((c : Thread nD τ).loc main_arg2) : FVec Ideal S64 .f32) (ix1 e) := by
  have i : (win0_2.blk t).view.emb (ix2 0 e) = ix2 0 e := by blk_ext [idx t]
  refine (congrArg (V m c main_call0_v2) i).trans ?_
  rw [V_bias]
  pointwise

/-- A row of a chunk of the block at a point, when the chunk's features there are a token's: that token's logits. -/
theorem row_eq (c : Dev nD) (t : Fin cfg0.N) (x : FVec Ideal S1024x768 .f32) (r : Fin 1024) (y : Fin 4096) (a : Fin 4) (s : Fin 8192)
    (hx : ∀ k : Fin 768, x (ix2 r k) = (iblk m c 0 t : FVec Ideal S4096x768 .f32) (ix2 y k))
    (h : t.val * 4096 + y.val = a.val * 8192 + s.val) :
    row x (iblk m c 1 t) (iblk m c 2 t) r
      = logit (m ((c : Thread nD τ).loc main_arg0)) (m ((c : Thread nD τ).loc main_arg1)) (m ((c : Thread nD τ).loc main_arg2)) a s := by
  funext e
  unfold row logit
  rw [bias_at m c t e]
  refine congrArg (· + _) (Finset.sum_congr rfl fun k _ => ?_)
  rw [hx k, features_at m c t y a s k h, weights_at m c t e k]

/-- The chunk of a block's rows from row `o` on. -/
abbrev chunk (X : FVec Ideal S4096x768 .f32) (o : ℕ) (h : ∀ a, (![o, 0] : Fin 2 → ℕ) a + S1024x768.size a ≤ S4096x768.size a) : FVec Ideal S1024x768 .f32 :=
  View.ld (Val := Elt Ideal) (e' := .f32) X (Rect.unit (s := S4096x768) ![o, 0] S1024x768.size h)

/-- Its row `r` is the block's row `o + r`. -/
theorem chunk_at (X : FVec Ideal S4096x768 .f32) (o : ℕ) (h : ∀ a, (![o, 0] : Fin 2 → ℕ) a + S1024x768.size a ≤ S4096x768.size a)
    (r : Fin 1024) (k : Fin 768) (hr : o + r.val < 4096) : chunk X o h (ix2 r k) = X (ix2 ⟨o + r.val, hr⟩ k) := by
  pointwise [chunk]

/-- A row of a chunk of the block at a point: the logits of the token at that row. -/
theorem chunk_row (c : Dev nD) (t : Fin cfg0.N) (o : ℕ) (ho : ∀ a, (![o, 0] : Fin 2 → ℕ) a + S1024x768.size a ≤ S4096x768.size a)
    (r : Fin 1024) (a : Fin 4) (s : Fin 8192) (h : t.val * 4096 + (o + r.val) = a.val * 8192 + s.val) :
    row (chunk (iblk m c 0 t) o ho) (iblk m c 1 t) (iblk m c 2 t) r
      = logit (m ((c : Thread nD τ).loc main_arg0)) (m ((c : Thread nD τ).loc main_arg1)) (m ((c : Thread nD τ).loc main_arg2)) a s := by
  have hr : o + r.val < 4096 := by have := ho 0; change o + 1024 ≤ 4096 at this; omega
  exact row_eq m c t _ r ⟨o + r.val, hr⟩ a s (fun k => chunk_at _ o ho r k hr) h

/-- A chunk's stored logits, at an index of the chunk. -/
theorem stored_eq (c : Dev nD) (t : Fin cfg0.N) (o : ℕ) (ho : ∀ a, (![o, 0] : Fin 2 → ℕ) a + S1024x768.size a ≤ S4096x768.size a)
    (j : S1x1024x64.Idx) (i : S4x8192x64.Idx)
    (h : t.val * 4096 + (o + (j 1).val) = (i 0).val * 8192 + (i 1).val ∧ (i 2).val = (j 2).val) :
    k0_pay5 (iblk m c 1 t) (iblk m c 2 t) (chunk (iblk m c 0 t) o ho) j
      = logit (m ((c : Thread nD τ).loc main_arg0)) (m ((c : Thread nD τ).loc main_arg1)) (m ((c : Thread nD τ).loc main_arg2)) (i 0) (i 1) (i 2) := by
  idx_vars j
  rw [show i 2 = j2 from Fin.ext h.2]
  exact (stored_logits_at _ _ _ _ _ _).trans (congrFun (chunk_row m c t o ho j1 (i 0) (i 1) h.1) j2)

/-- The weights as a block of the region holds them and reads them are the same. -/
theorem load_weights (w : FVec Ideal S64x768 .f32) : View.ld (Val := Elt Ideal) (e' := .f32) w r0_0 = w := by
  funext i; idx_vars i; pointwise [r0_0]
/-- The bias's too. -/
theorem load_bias (b : FVec Ideal S1x64 .f32) : View.ld (Val := Elt Ideal) (e' := .f32) b r0_1 = b := by
  funext i; idx_vars i
  obtain rfl : i0 = 0 := Subsingleton.elim (α := Fin 1) _ _
  pointwise [r0_1]

/-- The weights the later chunks share. -/
theorem shared_weights (X : FVec Ideal S4096x768 .f32) (w : FVec Ideal S64x768 .f32) (b : FVec Ideal S1x64 .f32) :
    k0_pay51 (F := Ideal) X w b = k0_pay2 (F := Ideal) w := congrArg (k0_pay2 (F := Ideal)) (load_weights w)
/-- The bias the later chunks share. -/
theorem shared_bias (X : FVec Ideal S4096x768 .f32) (w : FVec Ideal S64x768 .f32) (b : FVec Ideal S1x64 .f32) :
    k0_pay52 (F := Ideal) X w b = k0_pay3 (F := Ideal) b := congrArg (k0_pay3 (F := Ideal)) (load_bias b)

/-- The array of logits after the run: at every token and expert, the token's logit there. -/
theorem final3 (c : Dev nD) : (dats m 0 c).arrAt 3 cfg0.N
    = (fun i => logit (m ((c : Thread nD τ).loc main_arg0)) (m ((c : Thread nD τ).loc main_arg1)) (m ((c : Thread nD τ).loc main_arg2)) (i 0) (i 1) (i 2) : FVec Ideal S4x8192x64 .f32) := by
  refine (dats m 0 c).arrAt_eq_of_covers 3 _ (by decide +kernel) fun t _ y => ?_
  blk_simp
  rw [after0_3]; frame_out
  obtain ⟨-, -, -, i3, -, ht⟩ := idx t
  rw [shared_weights, shared_bias]
  canon_tiles x h
  · exact stored_eq m c t 3072 inb_S4096x768_S1024x768_3072_0 x _ (by blk_simp [i3]; omega)
  · exact stored_eq m c t 2048 inb_S4096x768_S1024x768_2048_0 x _ (by blk_simp [i3]; omega)
  · exact stored_eq m c t 1024 inb_S4096x768_S1024x768_1024_0 x _ (by blk_simp [i3]; omega)
  · exact stored_eq m c t 0 inb_S4096x768_S1024x768_0_0 x _ (by blk_simp [i3]; omega)

/-- What the array of choices holds at a row `q` and a column `n`: the entry `q` of the token `n`, batches one after another. -/
def choice (x : FVec Ideal S4x8192x768 .f32) (w : FVec Ideal S768x64 .f32) (b : FVec Ideal S64 .f32) (q : Fin 8) (n : Fin 32768) : EReal :=
  entry (logit x w b ⟨n.val / 8192, by omega⟩ ⟨n.val % 8192, by omega⟩) q

/-- A chunk's stored choices, at an index of the chunk. -/
theorem cols_eq (c : Dev nD) (t : Fin cfg0.N) (o : ℕ) (ho : ∀ a, (![o, 0] : Fin 2 → ℕ) a + S1024x768.size a ≤ S4096x768.size a)
    (j : S8x1024.Idx) (i : S8x32768.Idx) (h : (i 1).val = t.val * 4096 + (o + (j 1).val) ∧ (i 0).val = (j 0).val) :
    cols (chunk (iblk m c 0 t) o ho) (iblk m c 1 t) (iblk m c 2 t) j
      = choice (m ((c : Thread nD τ).loc main_arg0)) (m ((c : Thread nD τ).loc main_arg1)) (m ((c : Thread nD τ).loc main_arg2)) (i 0) (i 1) := by
  obtain ⟨h1, h2⟩ := h
  idx_vars j
  have hi1 : (i 1).val < 32768 := (i 1).isLt
  rw [show i 0 = j0 from Fin.ext h2]
  refine (cols_at _ _ _ _ _).trans ?_
  unfold choice
  rw [chunk_row m c t o ho j1 ⟨(i 1).val / 8192, by omega⟩ ⟨(i 1).val % 8192, by omega⟩
    (show t.val * 4096 + (o + j1.val) = (i 1).val / 8192 * 8192 + (i 1).val % 8192 by omega)]

/-- The array of choices after the run: at every token, its two experts and their gates. -/
theorem final4 (c : Dev nD) : (dats m 0 c).arrAt 4 cfg0.N
    = (fun i => choice (m ((c : Thread nD τ).loc main_arg0)) (m ((c : Thread nD τ).loc main_arg1)) (m ((c : Thread nD τ).loc main_arg2)) (i 0) (i 1) : FVec Ideal S8x32768 .f32) := by
  refine (dats m 0 c).arrAt_eq_of_covers 4 _ (by decide +kernel) fun t _ y => ?_
  blk_simp
  rw [after0_4]; frame_out
  obtain ⟨-, -, -, -, i4, ht⟩ := idx t
  rw [shared_weights, shared_bias]
  canon_tiles x h
  · exact cols_eq m c t 3072 inb_S4096x768_S1024x768_3072_0 x _ (by blk_simp [i4]; omega)
  · exact cols_eq m c t 2048 inb_S4096x768_S1024x768_2048_0 x _ (by blk_simp [i4]; omega)
  · exact cols_eq m c t 1024 inb_S4096x768_S1024x768_1024_0 x _ (by blk_simp [i4]; omega)
  · exact cols_eq m c t 0 inb_S4096x768_S1024x768_0_0 x _ (by blk_simp [i4]; omega)

end Cert.KernelIdeal.Arrays

end
-- ==== Proof.Finite.lean ====
/- What the precondition says: every number of the three arguments is a real number, and so is every logit. -/
module

public import proofs.«01_k».proof.Pre_finite
public import proofs.«01_k».proof.Proof.Rank
public import Idealize.ShloMosaic.Lib.Pointwise
public import Idealize.ShloMosaic.Lib.ReduceAll

@[expose] public section

set_option maxRecDepth 16384

noncomputable section

namespace Cert.Finite

open Idealize.ShloMosaic Cert.Pre_finite

/-- The side conditions the precondition's operations state. -/
instance facts : Cert.Pre_finite.Facts where
  bcast_S_S4x8192x768 := by decide
  reducesTo_S4x8192x768_S_d0_1_2 := by decide
  h_S_ := by decide
  bcast_S_S768x64 := by decide
  reducesTo_S768x64_S_d0_1 := by decide
  bcast_S_S64 := by decide
  reducesTo_S64_S_d0 := by decide

/-- A number is real: neither infinity. -/
def IsReal (x : EReal) : Prop := x ≠ ⊤ ∧ x ≠ ⊥

/-- The sum of two real numbers is one. -/
theorem IsReal.add {x y : EReal} (hx : IsReal x) (hy : IsReal y) : IsReal (x + y) :=
  ⟨(EReal.add_lt_top hx.1 hy.1).ne, fun h => (EReal.add_eq_bot_iff.mp h).elim hx.2 hy.2⟩

/-- The product of two real numbers is one. -/
theorem IsReal.mul {x y : EReal} (hx : IsReal x) (hy : IsReal y) : IsReal (x * y) := by
  lift x to ℝ using hx
  lift y to ℝ using hy
  exact ⟨EReal.coe_ne_top (x * y), EReal.coe_ne_bot (x * y)⟩

/-- A finite sum of real numbers is one. -/
theorem IsReal.sum {n : ℕ} {f : Fin n → EReal} (hf : ∀ k, IsReal (f k)) : IsReal (∑ k, f k) :=
  Finset.sum_induction f IsReal (fun _ _ => IsReal.add) ⟨EReal.zero_ne_top, EReal.zero_ne_bot⟩ fun k _ => hf k

/-- A number whose absolute value is below the upper infinity is real. -/
theorem isReal_of_abs {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : IsReal (x i) := by
  have e' : Ideal.cmp .olt (max (x i) (-x i)) (Ideal.ofBits .f32 0x7F800000#32) = 1#1 := e
  rw [Cert.Rank.ofBits_top] at e'
  have lt : max (x i) (-x i) < ⊤ := by
    by_contra hn
    exact absurd e' (by simp [Ideal.cmp, hn])
  exact ⟨fun h' => by simp [h'] at lt, fun h' => by simp [h'] at lt⟩

/-- Where the precondition holds every number of the arguments is real. -/
theorem of_pre (x : FVec Ideal S4x8192x768 .f32) (w : FVec Ideal S768x64 .f32) (b : FVec Ideal S64 .f32)
    (h : fn (F := Ideal) x w b = fun _ => 1#1) : (∀ i, IsReal (x i)) ∧ (∀ i, IsReal (w i)) ∧ ∀ i, IsReal (b i) := by
  haveI : Subsingleton S_.Idx := ⟨fun i j => funext fun k => k.elim0⟩
  have e := congrFun h (fun k => k.elim0)
  obtain ⟨e1, eb⟩ := IntOp.andi_eq_one.mp e
  obtain ⟨ex, ew⟩ := IntOp.andi_eq_one.mp e1
  exact ⟨fun i => isReal_of_abs x _ i (Host.reduce_andi_all _ _ _ _ _ ex i),
    fun i => isReal_of_abs w _ i (Host.reduce_andi_all _ _ _ _ _ ew i),
    fun i => isReal_of_abs b _ i (Host.reduce_andi_all _ _ _ _ _ eb i)⟩

end Cert.Finite

end
-- ==== Proof.Reference.lean ====
/- What the reference computes, index by index: the logits, the two experts, the gates. -/
module

public import proofs.«01_k».proof.Proof.Gen.ReferenceIdeal
public import proofs.«01_k».proof.Proof.Arrays
public import proofs.«01_k».proof.Proof.Finite
public import Idealize.ShloMosaic.Lib.Pointwise

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.Rank Cert.Finite
open Cert.KernelIdeal.Arrays (logit)

variable (x : FVec Ideal S4x8192x768 .f32) (w : FVec Ideal S768x64 .f32) (b : FVec Ideal S64 .f32)

/-- The reference's logits. -/
def scores : FVec Ideal S4x8192x64 .f32 :=
  addf (Host.dotGeneral dot_S4x8192x768_S768x64_S4x8192x64_2_0_01_1_n_n none x w) (broadcastInDim S4x8192x64 ![0, 1, 2] bcast_S1x1x64_S4x8192x64_0_1_2 (broadcastInDim S1x1x64 ![2] bcast_S64_S1x1x64_2 b))

/-- They are the tokens' logits. -/
theorem scores_at (a : Fin 4) (s : Fin 8192) (e : Fin 64) : scores x w b (ix3 a s e) = logit x w b a s e := by
  pointwise [scores, logit]

/-- The two greatest logits of every token and their experts. -/
def tops : FVec Ideal S4x8192x2 .f32 × IVec S4x8192x2 32 :=
  Host.topK S4x8192x2 2 (FloatOps.cmpfTotal (F := Ideal) .gt) (scores x w b) sliceFits_S4x8192x64_S4x8192x2

/-- The softmax of the two greatest logits. -/
def softmax (v : FVec Ideal S4x8192x2 .f32) : FVec Ideal S4x8192x2 .f32 :=
  Host.divf (Host.exp (subf v (broadcastInDim S4x8192x2 ![0, 1, 2] bcast_S4x8192x1_S4x8192x2_0_1_2 (broadcastInDim S4x8192x1 ![0, 1] bcast_S4x8192_S4x8192x1_0_1 (maximumf (broadcastInDim S4x8192 ![] bcast_S_S4x8192 (constant S_ .f32 0xFF800000#32)) (Host.reduce FloatOps.maximumf v (constant S_ .f32 0xFF800000#32) reducesTo_S4x8192x2_S4x8192_d2 h_S_))))))
    (broadcastInDim S4x8192x2 ![0, 1, 2] bcast_S4x8192x1_S4x8192x2_0_1_2 (broadcastInDim S4x8192x1 ![0, 1] bcast_S4x8192_S4x8192x1_0_1 (Host.reduceAdd (Host.exp (subf v (broadcastInDim S4x8192x2 ![0, 1, 2] bcast_S4x8192x1_S4x8192x2_0_1_2 (broadcastInDim S4x8192x1 ![0, 1] bcast_S4x8192_S4x8192x1_0_1 (maximumf (broadcastInDim S4x8192 ![] bcast_S_S4x8192 (constant S_ .f32 0xFF800000#32)) (Host.reduce FloatOps.maximumf v (constant S_ .f32 0xFF800000#32) reducesTo_S4x8192x2_S4x8192_d2 h_S_)))))) (constant S_ .f32 0x00000000#32) reducesTo_S4x8192x2_S4x8192_d2 h_S_)))

/-- Where every number is real, every logit is. -/
theorem logit_real (hx : ∀ i, IsReal (x i)) (hw : ∀ i, IsReal (w i)) (hb : ∀ i, IsReal (b i)) (a : Fin 4) (s : Fin 8192) (e : Fin 64) :
    IsReal (logit x w b a s e) :=
  (IsReal.sum fun k => (hx _).mul (hw _)).add (hb _)

/-- The indices along the last axis through an index are the indices with the last coordinate replaced. -/
theorem along_last (a : Fin 4) (s : Fin 8192) (e k : Fin 64) : (ix3 a s e : S4x8192x64.Idx).along 2 k = ix3 a s k := by
  funext d; unfold Shape.Idx.along
  fin_cases d <;> rfl

/-- The place among a token's logits of its `j`-th greatest. -/
theorem place_at (hr : ∀ a s e, IsReal (logit x w b a s e)) (a : Fin 4) (s : Fin 8192) (j : Fin 2) (e : Fin 64) (he : e = j.castLE (by decide)) :
    sortedFrom (fun k k' : Fin 64 => FloatOps.cmpfTotal (F := Ideal) .gt (scores x w b ((ix3 a s e : S4x8192x64.Idx).along 2 k)) (scores x w b ((ix3 a s e : S4x8192x64.Idx).along 2 k')) == 1#1) e
      = ![best (logit x w b a s), next (logit x w b a s)] j := by
  rw [he]
  refine sorted_two (logit x w b a s) (fun k => (hr a s k).2) _ (fun k k' => ?_) j
  rw [along_last, along_last, scores_at, scores_at]
  change (BitVec.ofBool (decide (logit x w b a s k' < logit x w b a s k)) == 1#1) = _
  cases decide (logit x w b a s k' < logit x w b a s k) <;> rfl

/-- The experts of a token, greatest logit first. -/
theorem experts_at (hr : ∀ a s e, IsReal (logit x w b a s e)) (a : Fin 4) (s : Fin 8192) (j : Fin 2) :
    (tops x w b).2 (ix3 a s j) = BitVec.ofNat 32 (![best (logit x w b a s), next (logit x w b a s)] j).val := by
  unfold tops Host.topK
  pointwise
  unfold Host.sort2
  rw [dif_pos (by decide)]
  refine Eq.trans ?_ (show (fun i : S4x8192x64.Idx => BitVec.ofNat 32 (i 2).val) (ix3 a s (![best (logit x w b a s), next (logit x w b a s)] j)) = _ from rfl)
  refine congrArg (fun i : S4x8192x64.Idx => BitVec.ofNat 32 (i 2).val) ((along_last a s ⟨j.val, by omega⟩ _).trans ?_)
  exact congrArg (ix3 a s) (place_at x w b hr a s j ⟨j.val, by omega⟩ rfl)

/-- Their logits. -/
theorem values_at (hr : ∀ a s e, IsReal (logit x w b a s e)) (a : Fin 4) (s : Fin 8192) (j : Fin 2) :
    (tops x w b).1 (ix3 a s j) = logit x w b a s (![best (logit x w b a s), next (logit x w b a s)] j) := by
  unfold tops Host.topK
  pointwise
  unfold Host.sort2
  rw [dif_pos (by decide)]
  refine Eq.trans ?_ (scores_at x w b a s _)
  refine congrArg (scores x w b) ((along_last a s ⟨j.val, by omega⟩ _).trans ?_)
  exact congrArg (ix3 a s) (place_at x w b hr a s j ⟨j.val, by omega⟩ rfl)

/-- The gates. -/
theorem softmax_at (hr : ∀ a s e, IsReal (logit x w b a s e)) (a : Fin 4) (s : Fin 8192) (j : Fin 2) :
    softmax (tops x w b).1 (ix3 a s j) = gate (logit x w b a s) j := by
  have h := softmax_eq_gate (logit x w b a s) (hr a s) (fun i => (tops x w b).1 (ix3 a s i)) (values_at x w b hr a s) j
  rw [zero_add] at h
  refine Eq.trans ?_ h
  pointwise [softmax, ofBits_bot]

end Cert.ReferenceIdeal.Read

end
-- ==== Proof.Equation.lean ====
/- The kernel's three results are the reference's, where every number of the arguments is real. -/
module

public import proofs.«01_k».proof.Proof.Tail
public import proofs.«01_k».proof.Proof.Reference

@[expose] public section

set_option maxRecDepth 16384

noncomputable section

namespace Cert.Equation

open Idealize.ShloMosaic Idealize.ShloMosaic.TcCoe Idealize.SL.Sem
open Cert.KernelIdeal Cert.KernelIdeal.Gen Cert.KernelIdeal.Arrays Cert.KernelIdeal.Tail Cert.Rank Cert.Finite
open Cert.ReferenceIdeal.Read (scores scores_at tops softmax logit_real softmax_at)

variable (x : FVec Ideal S4x8192x768 .f32) (w : FVec Ideal S768x64 .f32) (b : FVec Ideal S64 .f32)

/-- The logits are the reference's. -/
theorem logits_eq : (fun i => logit x w b (i 0) (i 1) (i 2) : FVec Ideal S4x8192x64 .f32) = scores x w b := by
  funext i; idx_vars i
  exact (scores_at x w b _ _ _).symm

/-- The array of choices the grid leaves. -/
abbrev choices : FVec Ideal S8x32768 .f32 := fun i => choice x w b (i 0) (i 1)

/-- A token's column of the array of choices is its own entries. -/
theorem choice_token (a : Fin 4) (s : Fin 8192) (q : Fin 8) (n : Fin 32768) (hn : n.val = a.val * 8192 + s.val) :
    choice x w b q n = entry (logit x w b a s) q := by
  unfold choice
  have ha : (⟨n.val / 8192, by omega⟩ : Fin 4) = a := Fin.ext (by simp only []; omega)
  have hs : (⟨n.val % 8192, by omega⟩ : Fin 8192) = s := Fin.ext (by simp only []; omega)
  rw [ha, hs]

/-- The first two entries of a row of logits, as whole numbers: the two experts. -/
theorem entry_expert (f : Fin 64 → EReal) (j : Fin 2) :
    Ideal.fptosi 32 (entry f ⟨j.val, by omega⟩) = BitVec.ofNat 32 ((![best f, next f] : Fin 2 → Fin 64) j).val := by
  revert j; rw [Fin.forall_fin_two]
  exact ⟨fptosi_nat (best f), fptosi_nat (next f)⟩

/-- The next two: their gates. -/
theorem entry_gate (f : Fin 64 → EReal) (j : Fin 2) : entry f ⟨2 + j.val, by omega⟩ = gate f j := by
  revert j; rw [Fin.forall_fin_two]
  exact ⟨rfl, rfl⟩

variable (hx : ∀ i, IsReal (x i)) (hw : ∀ i, IsReal (w i)) (hb : ∀ i, IsReal (b i))
include hx hw hb

/-- The experts are the reference's. -/
theorem experts_eq :
    shapeCast S4x8192x2 (fptosi 32 (transpose S32768x2 [1, 0] (extractStridedSlice S2x32768 ![0, 0] (choices x w b) slices_S8x32768_S2x32768_0_0) transposes_S2x32768_S32768x2_1_0)) shapeCasts_S32768x2_S4x8192x2
      = (tops x w b).2 := by
  funext i; idx_vars i
  refine (experts_at _ _ _ _).trans (Eq.trans ?_ (Cert.ReferenceIdeal.Read.experts_at x w b (logit_real x w b hx hw hb) _ _ _).symm)
  refine Eq.trans (congrArg (Ideal.fptosi 32) (choice_token x w b i0 i1 _ _ rfl)) (entry_expert _ _)

/-- The gates are the reference's. -/
theorem gates_eq :
    shapeCast S4x8192x2 (transpose S32768x2 [1, 0] (extractStridedSlice S2x32768 ![2, 0] (choices x w b) slices_S8x32768_S2x32768_2_0) transposes_S2x32768_S32768x2_1_0) shapeCasts_S32768x2_S4x8192x2
      = softmax (tops x w b).1 := by
  funext i; idx_vars i
  refine (gates_at _ _ _ _).trans (Eq.trans ?_ (softmax_at x w b (logit_real x w b hx hw hb) _ _ _).symm)
  exact (choice_token x w b i0 i1 _ _ rfl).trans (entry_gate _ _)

end Cert.Equation

end
-- ==== Proof.Run.lean ====
/- What the kernel's run leaves in its three result arrays. -/
module

public import proofs.«01_k».proof.Proof.Equation
public import Idealize.ShloMosaic.Lib.Claim
public import Idealize.ShloMosaic.Lib.Pipeline.FrameSuffix

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Arrays
open Cert.Equation (choices)

variable (m : (ℓ : Loc nD τ sig) → Buf (Elt Ideal) ℓ)

/-- The array of choices, as the host operations after the grid find it. -/
theorem found (c : Dev nD) :
    Pipeline.withArrays spec0 c (V0 m c) (fun w => (dats m 0 c).arrAt w cfg0.N) (Proc.devRef .tc main_call0_v3_1)
      = choices (m ((c : Thread nD τ).loc main_arg0)) (m ((c : Thread nD τ).loc main_arg1)) (m ((c : Thread nD τ).loc main_arg2)) := by
  exact (Pipeline.withArrays_arr spec0 (by decide) c (V0 m c) _ 4).trans (final4 m c)

/-- The experts the run leaves. -/
theorem tail_experts (c : Dev nD) : Pipeline.afterTail₀ cfgs (dats m) 0 (V0 m) [hostOps1] c main_v0_1
    = shapeCast S4x8192x2 (fptosi 32 (transpose S32768x2 [1, 0] (extractStridedSlice S2x32768 ![0, 0] (choices (m ((c : Thread nD τ).loc main_arg0)) (m ((c : Thread nD τ).loc main_arg1)) (m ((c : Thread nD τ).loc main_arg2))) slices_S8x32768_S2x32768_0_0) transposes_S2x32768_S32768x2_1_0)) shapeCasts_S32768x2_S4x8192x2 := by
  rw [← found]
  unfold Pipeline.afterTail₀
  simp only [List.flatten_cons, List.flatten_nil, List.append_nil]
  after_results
  rfl

/-- The gates the run leaves. -/
theorem tail_gates (c : Dev nD) : Pipeline.afterTail₀ cfgs (dats m) 0 (V0 m) [hostOps1] c main_v0_2
    = shapeCast S4x8192x2 (transpose S32768x2 [1, 0] (extractStridedSlice S2x32768 ![2, 0] (choices (m ((c : Thread nD τ).loc main_arg0)) (m ((c : Thread nD τ).loc main_arg1)) (m ((c : Thread nD τ).loc main_arg2))) slices_S8x32768_S2x32768_2_0) transposes_S2x32768_S32768x2_1_0) shapeCasts_S32768x2_S4x8192x2 := by
  rw [← found]
  unfold Pipeline.afterTail₀
  simp only [List.flatten_cons, List.flatten_nil, List.append_nil]
  after_results
  rfl

open Cert.Finite Cert.ReferenceIdeal.Read in
/-- The kernel's run, from arguments whose numbers are real: it ends with the reference's logits, experts and gates,
    its arguments as they were. -/
theorem run (g : Dev nD → PrngReg)
    (h : ∀ c : Dev nD, (∀ i, IsReal ((m ((c : Thread nD τ).loc main_arg0) : FVec Ideal S4x8192x768 .f32) i))
      ∧ (∀ i, IsReal ((m ((c : Thread nD τ).loc main_arg1) : FVec Ideal S768x64 .f32) i))
      ∧ ∀ i, IsReal ((m ((c : Thread nD τ).loc main_arg2) : FVec Ideal S64 .f32) i)) :
    θ_run defs (onTc (τ := τ) (main (F := Ideal))) ⟨m, fun _ => 0, g⟩ fun r => ∀ c : Dev nD,
      r.2.mem ((c.tc : Thread nD τ).loc main_v0_0) = scores (m ((c.tc : Thread nD τ).loc main_arg0)) (m ((c.tc : Thread nD τ).loc main_arg1)) (m ((c.tc : Thread nD τ).loc main_arg2))
      ∧ r.2.mem ((c.tc : Thread nD τ).loc main_v0_1) = (tops (m ((c.tc : Thread nD τ).loc main_arg0)) (m ((c.tc : Thread nD τ).loc main_arg1)) (m ((c.tc : Thread nD τ).loc main_arg2))).2
      ∧ r.2.mem ((c.tc : Thread nD τ).loc main_v0_2) = softmax (tops (m ((c.tc : Thread nD τ).loc main_arg0)) (m ((c.tc : Thread nD τ).loc main_arg1)) (m ((c.tc : Thread nD τ).loc main_arg2))).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r p c => ?_) (run_main m g)
  obtain ⟨hx, hw, hb⟩ := h c
  have rest := fun b hb => (p c).2 b hb
  refine ⟨?_, ?_, ?_, ?_, ?_, ?_⟩
  · exact ((p c).1 3).trans ((final3 m c).trans (Cert.Equation.logits_eq _ _ _))
  · exact (rest main_v0_1 (Pipeline.mem_restRefs_of main_v0_1 (by decide) (by decide))).trans
      ((tail_experts m c).trans (Cert.Equation.experts_eq _ _ _ hx hw hb))
  · exact (rest main_v0_2 (Pipeline.mem_restRefs_of main_v0_2 (by decide) (by decide))).trans
      ((tail_gates m c).trans (Cert.Equation.gates_eq _ _ _ hx hw hb))
  · exact (rest main_arg0 (Pipeline.mem_restRefs_of main_arg0 (by decide) (by decide))).trans (W_main_arg0 m (dats m) c)
  · exact (rest main_arg1 (Pipeline.mem_restRefs_of main_arg1 (by decide) (by decide))).trans (W_main_arg1 m (dats m) c)
  · exact (rest main_arg2 (Pipeline.mem_restRefs_of main_arg2 (by decide) (by decide))).trans (W_main_arg2 m (dats m) c)

end Cert.KernelIdeal.Results

end
-- ==== Proof.lean ====
/- The certificate's claim, put together: the two kernels' frames as generated, the reference's frame, and the equality of
   the kernel's three results with the reference's where the arguments are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The reference leaves its arguments alone and every semaphore counter at zero, for it declares none. -/
theorem frame_reference : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run m g)

/-- The kernel's three results equal the reference's, where the arguments' numbers are real. -/
theorem algebraic : Cert.algebraic_KernelIdeal_ReferenceIdeal_pre_finite := by
  intro m g m' g' hpre hagree
  refine ⟨_, _, _, Cert.KernelIdeal.Results.run m g fun c => Cert.Finite.of_pre _ _ _ (hpre c), ?_⟩
  refine (θ_run Cert.ReferenceIdeal.defs _ _).mono (fun r h c => ?_) (Cert.ReferenceIdeal.Value.run m' g')
  obtain ⟨h0, h1, h2, ha⟩ := h c
  obtain ⟨a0, a1, a2⟩ := hagree c
  rw [a0, a1, a2] at h0 h1 h2
  exact ⟨h0, h1, h2, ha⟩

/-- The certificate's claim. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
